-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_names_a_modality [hPre_names_a_modality : Cert.Pre_names_a_modality.Facts] (m : (ℓ : Loc Cert.KernelIdeal.nD Cert.KernelIdeal.τ Cert.KernelIdeal.sig) → Buf (Elt Ideal) ℓ) : Prop :=
  ∀ c : Dev Cert.KernelIdeal.nD,
    (Cert.Pre_names_a_modality.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_names_a_modality [hPre_names_a_modality : Cert.Pre_names_a_modality.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_names_a_modality.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_names_a_modality [hKernelIdeal : Cert.KernelIdeal.Facts] [hPre_names_a_modality : Cert.Pre_names_a_modality.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_names_a_modality m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_names_a_modality [hReferenceIdeal : Cert.ReferenceIdeal.Facts] [hPre_names_a_modality : Cert.Pre_names_a_modality.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_names_a_modality m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_names_a_modality [hKernelIdeal : Cert.KernelIdeal.Facts] [hReferenceIdeal : Cert.ReferenceIdeal.Facts] [hPre_names_a_modality : Cert.Pre_names_a_modality.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_names_a_modality m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_names_a_modality : Cert.Pre_names_a_modality.Facts),
    quiescent_Kernel (hKernel := hKernel)
    ∧ quiescent_KernelIdeal (hKernelIdeal := hKernelIdeal)
    ∧ quiescent_KernelIdeal_pre_names_a_modality (hKernelIdeal := hKernelIdeal) (hPre_names_a_modality := hPre_names_a_modality)
    ∧ quiescent_ReferenceIdeal (hReferenceIdeal := hReferenceIdeal)
    ∧ quiescent_ReferenceIdeal_pre_names_a_modality (hReferenceIdeal := hReferenceIdeal) (hPre_names_a_modality := hPre_names_a_modality)
    ∧ preserves_Kernel_KernelIdeal
    ∧ algebraic_KernelIdeal_ReferenceIdeal_pre_names_a_modality (hKernelIdeal := hKernelIdeal) (hReferenceIdeal := hReferenceIdeal) (hPre_names_a_modality := hPre_names_a_modality)
-- ==== Pre_names_a_modality.lean ====
abbrev S16384x2048 : Shape := ⟨2, ![16384, 2048]⟩
abbrev S2x2048 : Shape := ⟨2, ![2, 2048]⟩
abbrev S_ : Shape := ⟨0, ![]⟩

class Facts : Prop where

variable [Facts]

def fn {F : FTy → Type} [FloatOps F] (main_arg0 : FVec F S16384x2048 .f32) (main_arg1 : FVec F S2x2048 .f32) (main_arg2 : FVec F S2x2048 .f32) (main_arg3 : IVec S_ 32) : IVec S_ 1 :=
  let main_c : IVec S_ 32 := constantI S_ 32 0#32
  let main_v0 : IVec S_ 1 := cmpi .sge main_arg3 main_c
  let main_c_0 : IVec S_ 32 := constantI S_ 32 2#32
  let main_v1 : IVec S_ 1 := cmpi .slt main_arg3 main_c_0
  let main_v2 : IVec S_ 1 := andi main_v0 main_v1
  main_v2
-- ==== Kernel.lean ====
abbrev S16384x2048 : Shape := ⟨2, ![16384, 2048]⟩
abbrev S2x2048 : Shape := ⟨2, ![2, 2048]⟩
abbrev S_ : Shape := ⟨0, ![]⟩
abbrev S1 : Shape := ⟨1, ![1]⟩
abbrev S2x1x2048 : Shape := ⟨3, ![2, 1, 2048]⟩
abbrev S512x2048 : Shape := ⟨2, ![512, 2048]⟩
abbrev S1x1x2048 : Shape := ⟨3, ![1, 1, 2048]⟩
abbrev S1x2048 : Shape := ⟨2, ![1, 2048]⟩

abbrev nBuf : Space → Nat
  | .hbm => 15
  | .vmem => 6
  | .smem => 1
  | _ => 0

abbrev bufTy : (tb : Table) → Fin (tcTables nBuf tb) → BufTy
  | .hbm, ⟨0, _⟩ => ⟨S16384x2048, .f32⟩
  | .hbm, ⟨1, _⟩ => ⟨S2x2048, .f32⟩
  | .hbm, ⟨2, _⟩ => ⟨S2x2048, .f32⟩
  | .hbm, ⟨3, _⟩ => ⟨S_, .i32⟩
  | .hbm, ⟨4, _⟩ => ⟨S1, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S1, .i32⟩
  | .hbm, ⟨9, _⟩ => ⟨S1, .i32⟩
  | .hbm, ⟨10, _⟩ => ⟨S_, .i32⟩
  | .hbm, ⟨11, _⟩ => ⟨S1, .i32⟩
  | .hbm, ⟨12, _⟩ => ⟨S2x1x2048, .f32⟩
  | .hbm, ⟨13, _⟩ => ⟨S2x1x2048, .f32⟩
  | .hbm, ⟨14, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x1x2048, .f32⟩
  | .local _ .vmem, ⟨3, _⟩ => ⟨S1x1x2048, .f32⟩
  | .local _ .vmem, ⟨4, _⟩ => ⟨S512x2048, .f32⟩
  | .local _ .vmem, ⟨5, _⟩ => ⟨S512x2048, .f32⟩
  | .local _ .smem, ⟨0, _⟩ => ⟨S1, .i32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_c_0 : Ref sig .tc := ⟨.hbm, 6, rfl⟩
abbrev main_call1_v0 : Ref sig .tc := ⟨.hbm, 7, rfl⟩
abbrev main_call1_v1 : Ref sig .tc := ⟨.hbm, 8, rfl⟩
abbrev main_call1_v2 : Ref sig .tc := ⟨.hbm, 9, rfl⟩
abbrev main_call1_v3 : Ref sig .tc := ⟨.hbm, 10, rfl⟩
abbrev main_call1_v4 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_v1.idx], fun | 0 => main_v1.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S16384x2048 : Shape := ⟨2, ![16384, 2048]⟩
abbrev S2x2048 : Shape := ⟨2, ![2, 2048]⟩
abbrev S_ : Shape := ⟨0, ![]⟩
abbrev S16384 : Shape := ⟨1, ![16384]⟩
abbrev S16384x1 : Shape := ⟨2, ![16384, 1]⟩
abbrev S1 : Shape := ⟨1, ![1]⟩
abbrev S1x1 : Shape := ⟨2, ![1, 1]⟩

abbrev nBuf : Space → Nat
  | .hbm => 53
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2x2048, .f32⟩
  | .hbm, ⟨2, _⟩ => ⟨S2x2048, .f32⟩
  | .hbm, ⟨3, _⟩ => ⟨S_, .i32⟩
  | .hbm, ⟨4, _⟩ => ⟨S16384, .i32⟩
  | .hbm, ⟨5, _⟩ => ⟨S_, .i32⟩
  | .hbm, ⟨6, _⟩ => ⟨S16384, .i32⟩
  | .hbm, ⟨7, _⟩ => ⟨S16384, .i1⟩
  | .hbm, ⟨8, _⟩ => ⟨S_, .i32⟩
  | .hbm, ⟨9, _⟩ => ⟨S16384, .i32⟩
  | .hbm, ⟨10, _⟩ => ⟨S16384, .i32⟩
  | .hbm, ⟨11, _⟩ => ⟨S16384, .i32⟩
  | .hbm, ⟨12, _⟩ => ⟨S16384x1, .i32⟩
  | .hbm, ⟨13, _⟩ => ⟨S1, .i32⟩
  | .hbm, ⟨14, _⟩ => ⟨S_, .i32⟩
  | .hbm, ⟨15, _⟩ => ⟨S16384x1, .i32⟩
  | .hbm, ⟨16, _⟩ => ⟨S16384x1, .i1⟩
  | .hbm, ⟨17, _⟩ => ⟨S1x1, .i32⟩
  | .hbm, ⟨18, _⟩ => ⟨S16384x1, .i32⟩
  | .hbm, ⟨19, _⟩ => ⟨S16384x1, .i1⟩
  | .hbm, ⟨20, _⟩ => ⟨S16384x1, .i1⟩
  | .hbm, ⟨21, _⟩ => ⟨S_, .i1⟩
  | .hbm, ⟨22, _⟩ => ⟨S16384, .i1⟩
  | .hbm, ⟨23, _⟩ => ⟨S16384x2048, .f32⟩
  | .hbm, ⟨24, _⟩ => ⟨S16384x2048, .i1⟩
  | .hbm, ⟨25, _⟩ => ⟨S_, .f32⟩
  | .hbm, ⟨26, _⟩ => ⟨S16384x2048, .f32⟩
  | .hbm, ⟨27, _⟩ => ⟨S16384x2048, .f32⟩
  | .hbm, ⟨28, _⟩ => ⟨S_, .i32⟩
  | .hbm, ⟨29, _⟩ => ⟨S16384, .i32⟩
  | .hbm, ⟨30, _⟩ => ⟨S16384, .i1⟩
  | .hbm, ⟨31, _⟩ => ⟨S_, .i32⟩
  | .hbm, ⟨32, _⟩ => ⟨S16384, .i32⟩
  | .hbm, ⟨33, _⟩ => ⟨S16384, .i32⟩
  | .hbm, ⟨34, _⟩ => ⟨S16384, .i32⟩
  | .hbm, ⟨35, _⟩ => ⟨S16384x1, .i32⟩
  | .hbm, ⟨36, _⟩ => ⟨S1, .i32⟩
  | .hbm, ⟨37, _⟩ => ⟨S_, .i32⟩
  | .hbm, ⟨38, _⟩ => ⟨S16384x1, .i32⟩
  | .hbm, ⟨39, _⟩ => ⟨S16384x1, .i1⟩
  | .hbm, ⟨40, _⟩ => ⟨S1x1, .i32⟩
  | .hbm, ⟨41, _⟩ => ⟨S16384x1, .i32⟩
  | .hbm, ⟨42, _⟩ => ⟨S16384x1, .i1⟩
  | .hbm, ⟨43, _⟩ => ⟨S16384x1, .i1⟩
  | .hbm, ⟨44, _⟩ => ⟨S_, .i1⟩
  | .hbm, ⟨45, _⟩ => ⟨S16384, .i1⟩
  | .hbm, ⟨46, _⟩ => ⟨S16384x2048, .f32⟩
  | .hbm, ⟨47, _⟩ => ⟨S16384x2048, .i1⟩
  | .hbm, ⟨48, _⟩ => ⟨S_, .f32⟩
  | .hbm, ⟨49, _⟩ => ⟨S16384x2048, .f32⟩
  | .hbm, ⟨50, _⟩ => ⟨S16384x2048, .f32⟩
  | .hbm, ⟨51, _⟩ => ⟨S16384x2048, .f32⟩
  | .hbm, ⟨52, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v1 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v2 : Ref sig .tc := ⟨.hbm, 50, rfl⟩
abbrev main_v3 : Ref sig .tc := ⟨.hbm, 51, rfl⟩
abbrev main_v4 : Ref sig .tc := ⟨.hbm, 52, rfl⟩

abbrev nD : Nat := 1
abbrev τ : Topo := Topo.v7x

variable {F : FTy → Type} [FloatOps F]
-- ==== Proof.Row.lean ====
/- The row of the two-row tables that a modality word names, and the map `feat * gamma[row] + beta[row]` over a whole array.
   Nothing here speaks of a program: the kernel's proof and the reference's both end at `scaleShift`. -/
module

public import Idealize.ShloMosaic.Lib.Pipeline.Value
public import Idealize.ShloMosaic.Lib.ValueIdxCore

@[expose] public section

noncomputable section

namespace Cert.Row

open Idealize.ShloMosaic Idealize.ShloMosaic.ValueIdx

/-- A word clipped to the two rows there are: below 0 it becomes 0, above 1 it becomes 1. -/
def clip (x : BitVec 32) : BitVec 32 := IntOp.minsi 1#32 (IntOp.maxsi 0#32 x)

/-- A clipped word, read unsigned, is 0 or 1. -/
theorem clip_lt (x : BitVec 32) : (clip x).toNat < 2 := by
  unfold clip IntOp.minsi IntOp.maxsi
  by_cases h0 : x.slt 0#32 = true
  · rw [if_pos h0]; decide
  · rw [if_neg h0]
    by_cases h1 : (1#32).slt x = true
    · rw [if_pos h1]; decide
    · rw [if_neg h1]
      simp only [BitVec.slt, decide_eq_true_eq, BitVec.toInt_eq_toNat_cond] at h0 h1
      have := x.isLt
      simp at h0 h1
      split at h1 <;> split at h0 <;> omega

/-- The row of the tables the clipped word names. -/
def row (x : BitVec 32) : Fin 2 := ⟨(clip x).toNat, clip_lt x⟩

/-- A word that passes both comparisons (at least 0, less than 2, read signed) is 0 or 1. -/
theorem eq_of_between (x : BitVec 32)
    (h : IntOp.andi (IntOp.cmpi .sge x 0#32) (IntOp.cmpi .slt x 2#32) = 1#1) : x = 0#32 ∨ x = 1#32 := by
  have h0 : IntOp.cmpi .sge x 0#32 = 1#1 ∧ IntOp.cmpi .slt x 2#32 = 1#1 := by
    revert h
    generalize IntOp.cmpi .sge x 0#32 = a
    generalize IntOp.cmpi .slt x 2#32 = b
    revert a b
    decide
  obtain ⟨hl, hu⟩ := h0
  have key : ∀ p : Bool, BitVec.ofBool p = 1#1 → p = true := by decide
  have hl' := key _ hl
  have hu' := key _ hu
  simp only [BitVec.sle, BitVec.slt, decide_eq_true_eq, BitVec.toInt_eq_toNat_cond] at hl' hu'
  have hx := x.isLt
  simp at hl' hu'
  have hn : x.toNat = 0 ∨ x.toNat = 1 := by
    split at hl' <;> split at hu' <;> omega
  rcases hn with hn | hn
  · exact Or.inl (BitVec.eq_of_toNat_eq hn)
  · exact Or.inr (BitVec.eq_of_toNat_eq hn)

/-- A word that names a row is the row's number, written as a word. -/
theorem eq_ofNat_row (x : BitVec 32) (h : x = 0#32 ∨ x = 1#32) : x = BitVec.ofNat 32 (row x).val := by
  rcases h with rfl | rfl <;> decide

variable {F : FTy → Type} [FloatOps F]

/-- The shape of an array of `a` rows and `b` columns. -/
abbrev shape2 (a b : Nat) : Shape := ⟨2, ![a, b]⟩

/-- Feature-wise scale and shift: every element of `feat` times the entry of `gamma`'s row `r` in the element's column, plus the
    entry of `beta`'s row `r` in that column. -/
def scaleShift {n k : Nat} (feat : FVec F (shape2 n k) .f32) (gamma beta : FVec F (shape2 2 k) .f32) (r : Fin 2) :
    FVec F (shape2 n k) .f32 :=
  fun i => FloatOps.addf (FloatOps.mulf (feat i) (gamma (ix2 r (i 1)))) (beta (ix2 r (i 1)))

end Cert.Row

end
-- ==== Proof.TableIdeal.lean ====
/- The one prefetched word of the idealized kernel, and the side condition of the region that reads it. -/
module

public import proofs.«01_k».proof.Proof.Row
public import proofs.«01_k».proof.Proof.Gen.KernelIdeal.Frame

@[expose] public section

noncomputable section

namespace Cert.KernelIdeal.Proof

open Cert.KernelIdeal Cert.KernelIdeal.Gen Idealize.ShloMosaic Idealize.ShloMosaic.TcCoe Idealize.ShloMosaic.StableHlo

variable {F : FTy → Type} [FloatOps F]
variable (m : (ℓ : Loc nD τ sig) → Buf (Elt F) ℓ)

/-- The modality word device `c` is launched with. -/
abbrev word (c : Dev nD) : BitVec 32 := (m ((c : Thread nD τ).loc main_arg3) : S_.Idx → BitVec 32) (fun a => a.elim0)

/-- The table the region reads holds, on every device, the clipped modality word. -/
theorem V_table (c : Dev nD) (x : S1.Idx) : (V m c main_v1 : S1.Idx → BitVec 32) x = Row.clip (word m c) := by
  have e : V m c main_v1 = minsi (broadcastInDim S1 ![] bcast_S_S1 (constantI S_ 32 1#32))
      (maxsi (broadcastInDim S1 ![] bcast_S_S1 (constantI S_ 32 0#32))
        (broadcastInDim S1 ![] bcast_S_S1 (m ((c : Thread nD τ).loc main_arg3) : S_.Idx → BitVec 32))) := by
    unfold V
    dsimp only [hostOps0, hostOps0_1, hostOps0_2, hostOps0_3, List.flatten, List.append]
    after_results_simp
    rfl
  rw [e]
  show IntOp.minsi 1#32 (IntOp.maxsi 0#32 _) = _
  unfold Row.clip word
  congr 2
  exact congrArg (m ((c : Thread nD τ).loc main_arg3) : S_.Idx → BitVec 32) (funext fun a : Fin 0 => a.elim0)

/-- `gamma` as the region finds it: the two rows, each an array of its own. -/
theorem V_gamma (c : Dev nD) : (V m c main_v2 : S2x1x2048.Idx → F .f32)
    = shapeCast S2x1x2048 (m ((c : Thread nD τ).loc main_arg1)) shapeCasts_S2x2048_S2x1x2048 := by
  unfold V
  dsimp only [hostOps0, hostOps0_1, hostOps0_2, hostOps0_3, List.flatten, List.append]
  after_results_simp
  rfl

/-- `beta` as the region finds it, in the same shape. -/
theorem V_beta (c : Dev nD) : (V m c main_v3 : S2x1x2048.Idx → F .f32)
    = shapeCast S2x1x2048 (m ((c : Thread nD τ).loc main_arg2)) shapeCasts_S2x2048_S2x1x2048 := by
  unfold V
  dsimp only [hostOps0, hostOps0_1, hostOps0_2, hostOps0_3, List.flatten, List.append]
  after_results_simp
  rfl

/-- Both windows that read the table stand at the block of the row the clipped word names, at every grid point. -/
theorem transform_1_eq (i : grid0.Coords) :
    cc0_transform_1 inb_S1_S1_0 numel1_S1 (tbl m) i = ![(Row.row (word m 0)).val, 0, 0] := by
  have h : (V m 0 main_v1 : S1.Idx → BitVec 32)
      ((Rect.unit (s := S1) ![0] S1.size inb_S1_S1_0).emb (Shape.Idx.first (numel1_S1.symm ▸ Nat.one_pos))) = Row.clip (word m 0) :=
    V_table m 0 _
  have h' := congrArg (fun w : BitVec 32 => (![w.toNat, 0, 0] : Fin 3 → Nat)) h
  exact h'

theorem transform_2_eq (i : grid0.Coords) :
    cc0_transform_2 inb_S1_S1_0 numel1_S1 (tbl m) i = ![(Row.row (word m 0)).val, 0, 0] := transform_1_eq m i

/-- The region's side condition of its table holds whatever the modality word is, for the word is clipped before the region reads
    it: the block of either window lies inside its array. -/
theorem ok : Ok m := by
  have hr := (Row.row (word m 0)).isLt
  have hb : ∀ a : Fin 3, (![(Row.row (word m 0)).val, 0, 0] a + 1) * S1x1x2048.size a ≤ S2x1x2048.size a := by
    generalize (Row.row (word m 0)).val = n at hr
    interval_cases n <;> decide
  exact ⟨fun i => ⟨by rw [transform_1_eq]; exact hb, Or.inl rfl⟩, fun i => ⟨by rw [transform_2_eq]; exact hb, Or.inl rfl⟩⟩

end Cert.KernelIdeal.Proof

end
-- ==== Proof.ValueIdeal.lean ====
/- What the idealized kernel leaves in its result array: the scale and shift of `feat` by the row that the clipped word names. -/
module

public import proofs.«01_k».proof.Proof.TableIdeal
public import Idealize.ShloMosaic.Lib.Quiescent

@[expose] public section

noncomputable section

namespace Cert.KernelIdeal.Proof

open Cert.KernelIdeal Cert.KernelIdeal.Gen Idealize.ShloMosaic Idealize.ShloMosaic.TcCoe Idealize.ShloMosaic.ValueIdx Idealize.SL.Sem

variable {F : FTy → Type} [FloatOps F]

/-- The body's arithmetic at one element of a block: the element of `feat`'s block times the entry of the loaded `gamma` row in its
    column, plus the entry of the loaded `beta` row in that column. -/
theorem pay_apply (v0 : Vec F S512x2048 .f32) (v1 v5 : Vec F S1x1x2048 .f32) (y : S512x2048.Idx) :
    k0_pay1 v0 v1 v5 y = FloatOps.addf (FloatOps.mulf (v0 y) (v1 (ix3 0 0 (y 1)))) (v5 (ix3 0 0 (y 1))) := by
  have hb (v : Vec F S1x1x2048 .f32) :
      broadcastTo S512x2048 (shapeCast S1x2048 v shapeCasts_S1x1x2048_S1x2048) broadcasts_S1x2048_S512x2048 y = v (ix3 0 0 (y 1)) := by
    rw [broadcastTo_apply _ broadcasts_S1x2048_S512x2048 y (ix2 0 (y 1)) (fun a => by fin_cases a <;> rfl)]
    refine shapeCast_apply _ _ _ _ ?_
    rw [Shape.rowMajor_val_three, Shape.rowMajor_val_two]
    show (0 * 1 + 0) * 2048 + (y 1).val = 0 * 2048 + (y 1).val
    omega
  show FloatOps.addf (FloatOps.mulf (v0 y) _) _ = _
  rw [hb v1, hb v5]

theorem zero2 : (![0, 0] : Fin 2 → Nat) = fun _ => 0 := funext fun a => by fin_cases a <;> rfl
theorem zero3 : (![0, 0, 0] : Fin 3 → Nat) = fun _ => 0 := funext fun a => by fin_cases a <;> rfl

/-- What the body leaves in the result's staging buffer is its arithmetic on the three whole blocks: one store, through the whole
    buffer, of what three loads of whole buffers read. -/
theorem out_eq (c : Dev nD) (i : grid0.Coords) (a2 : Memref sig .tc .vmem S512x2048 .f32) (h2 : a2.IsWhole)
    (a3 : Memref sig .tc .vmem S1x1x2048 .f32) (h3 : a3.IsWhole) (a4 : Memref sig .tc .vmem S1x1x2048 .f32) (h4 : a4.IsWhole)
    (a5 : Memref sig .tc .vmem S512x2048 .f32) (h5 : a5.IsWhole) (x0 : Vec F S512x2048 .f32) (x1 x2 : Vec F S1x1x2048 .f32)
    (xt : TbBuf0 (F := F) c tbM0_0) : out0_A_3 c i a2 h2 a3 h3 a4 h4 a5 h5 x0 x1 x2 xt = k0_pay1 x0 x1 x2 := by
  unfold out0_A_3
  rw [View.read_writes_junk_eq_canon]
  unfold kernelRun0_A
  dsimp only
  rw [View.canon_unit_zero (S := S512x2048) zero2]
  simp only [View.readAt_eq_ld, h2.read_unread, h3.read_unread, h4.read_unread, View.ld_unit_zero (S := S512x2048) zero2,
    View.ld_unit_zero (S := S1x1x2048) zero3]

variable (m : (ℓ : Loc nD τ sig) → Buf (Elt F) ℓ) (ρ : Dev nD → PrngReg)

/-- What device `c`'s result array is shown to hold. -/
abbrev result (c : Dev nD) : Buf (Elt F) ((c : Thread nD τ).loc main_v4) :=
  Row.scaleShift (m ((c : Thread nD τ).loc main_arg0)) (m ((c : Thread nD τ).loc main_arg1)) (m ((c : Thread nD τ).loc main_arg2))
    (Row.row (word m c))

/-- A table reshaped to one array per row, read at row `r`, is the table's row `r`. -/
theorem cast_apply (x : S2x2048.Idx → F .f32) (r : Fin 2) (k : Fin 2048) :
    shapeCast S2x1x2048 x shapeCasts_S2x2048_S2x1x2048 (ix3 r 0 k) = x (ix2 r k) := by
  refine shapeCast_apply _ _ _ _ ?_
  rw [Shape.rowMajor_val_three, Shape.rowMajor_val_two]
  show r.val * 2048 + k.val = (r.val * 1 + 0) * 2048 + k.val
  omega

/-- Where an element of the block of window 1 at point `t` lies in the window's array, the table holding `a`. -/
def at1 (a : (pcfg0 (F := F)).Adm) (t : Fin (cfg0 a).N) (z : S1x1x2048.Idx) : S2x1x2048.Idx := (((cfg0 a).win 1).blk t).view.emb z

/-- Where an element of the result's block at point `t` lies in the result. -/
def at3 (a : (pcfg0 (F := F)).Adm) (t : Fin (cfg0 a).N) (y : S512x2048.Idx) : S16384x2048.Idx := (((cfg0 a).win 3).blk t).view.emb y

/-- On each axis: at the index map's value times the block's extent, plus the element's own coordinate. -/
theorem at1_val (a : (pcfg0 (F := F)).Adm) (t : Fin (cfg0 a).N) (z : S1x1x2048.Idx) (x : Fin 3) :
    (at1 a t z x).val = cc0_transform_1 inb_S1_S1_0 numel1_S1 a.1 (grid0.coords t) x * S1x1x2048.size x + (z x).val :=
  ((cfg0 a).win 1).rect_emb_val t z x

theorem at3_val (a : (pcfg0 (F := F)).Adm) (t : Fin (cfg0 a).N) (y : S512x2048.Idx) (x : Fin 2) :
    (at3 a t y x).val = cc0_transform_3 (grid0.coords t) x * S512x2048.size x + (y x).val :=
  ((cfg0 a).win 3).rect_emb_val t y x

/-- At a table whose word names row `r`, window 1's block at any point is row `r`. -/
theorem at1_eq (a : (pcfg0 (F := F)).Adm) (r : Fin 2) (h : ∀ i, cc0_transform_1 inb_S1_S1_0 numel1_S1 a.1 i = ![r.val, 0, 0])
    (t : Fin (cfg0 a).N) (k : Fin 2048) : at1 a t (ix3 0 0 k) = ix3 r 0 k := by
  funext x
  apply Fin.ext
  rw [at1_val, h]
  match x with
  | ⟨0, _⟩ => show r.val * 1 + 0 = r.val; omega
  | ⟨1, _⟩ => rfl
  | ⟨2, _⟩ => show 0 * 2048 + k.val = k.val; omega

/-- The result's block keeps the columns. -/
theorem at3_col (a : (pcfg0 (F := F)).Adm) (t : Fin (cfg0 a).N) (y : S512x2048.Idx) : at3 a t y 1 = y 1 := by
  apply Fin.ext
  rw [at3_val]
  show 0 * 2048 + (y 1).val = (y 1).val
  omega

/-- `feat`'s block at a point, read where the result's block lies: the two windows have one index map. -/
theorem feat_apply (hO : Ok m) (c : Dev nD) (t : Fin (cfgM m hO).N) (y : S512x2048.Idx) :
    (iblk m hO c 0 t : S512x2048.Idx → F .f32) y = (m ((c : Thread nD τ).loc main_arg0) : S16384x2048.Idx → F .f32)
      (at3 (adm m hO) t y) :=
  congrFun (V_main_arg0 m c) _

/-- `gamma`'s block at a point is the named row of `gamma`. -/
theorem gamma_apply (hO : Ok m) (c : Dev nD) (t : Fin (cfgM m hO).N) (k : Fin 2048) :
    (iblk m hO c 1 t : S1x1x2048.Idx → F .f32) (ix3 0 0 k)
      = (m ((c : Thread nD τ).loc main_arg1) : S2x2048.Idx → F .f32) (ix2 (Row.row (word m 0)) k) :=
  (congrArg (V m c main_v2 : S2x1x2048.Idx → F .f32) (at1_eq (adm m hO) _ (transform_1_eq m) t k)).trans
    ((congrFun (V_gamma m c) _).trans (cast_apply _ _ _))

/-- `beta`'s block at a point is the named row of `beta`. -/
theorem beta_apply (hO : Ok m) (c : Dev nD) (t : Fin (cfgM m hO).N) (k : Fin 2048) :
    (iblk m hO c 2 t : S1x1x2048.Idx → F .f32) (ix3 0 0 k)
      = (m ((c : Thread nD τ).loc main_arg2) : S2x2048.Idx → F .f32) (ix2 (Row.row (word m 0)) k) :=
  (congrArg (V m c main_v3 : S2x1x2048.Idx → F .f32) (at1_eq (adm m hO) _ (transform_1_eq m) t k)).trans
    ((congrFun (V_beta m c) _).trans (cast_apply _ _ _))

/-- What the body leaves at a point, element by element: the whole result, read where the result's block lies. -/
theorem outs_apply (hO : Ok m) (c : Dev nD) (t : Fin (cfgM m hO).N) (y : S512x2048.Idx) :
    outsAt0 m hO c t y = result m c (at3 (adm m hO) t y) := by
  obtain rfl : c = 0 := Subsingleton.elim _ _
  have h : outsAt0 m hO 0 t y = k0_pay1 (iblk m hO 0 0 t) (iblk m hO 0 1 t) (iblk m hO 0 2 t) y := congrFun (out_eq ..) y
  refine h.trans ((pay_apply (iblk m hO 0 0 t) (iblk m hO 0 1 t) (iblk m hO 0 2 t) y).trans ?_)
  have key (i : S16384x2048.Idx) (hi : i 1 = (y 1 : Fin 2048)) :
      result m 0 i = FloatOps.addf (FloatOps.mulf ((m (((0 : Dev nD) : Thread nD τ).loc main_arg0) : S16384x2048.Idx → F .f32) i)
        ((m (((0 : Dev nD) : Thread nD τ).loc main_arg1) : S2x2048.Idx → F .f32) (ix2 (Row.row (word m 0)) (y 1))))
        ((m (((0 : Dev nD) : Thread nD τ).loc main_arg2) : S2x2048.Idx → F .f32) (ix2 (Row.row (word m 0)) (y 1))) := by
    rw [← hi]; rfl
  refine Eq.trans ?_ (key _ (at3_col (adm m hO) t y)).symm
  exact congrArg₂ FloatOps.addf (congrArg₂ FloatOps.mulf (feat_apply m hO 0 t y) (gamma_apply m hO 0 t (y 1)))
    (beta_apply m hO 0 t (y 1))

/-- What point `t` writes back is its block of the whole result. -/
theorem flushed_eq (hO : Ok m) (c : Dev nD) (t : Fin (cfgM m hO).N) :
    (dats m hO 0 c).flushed 3 t = (((cfgM m hO).win 3).blk t).view.read (Elt F) (result m c) := by
  show ((cfgM m hO).win 3).cut (grid0.coords t) ((dats m hO 0 c).after 3 t) = _
  rw [after0_3]
  exact funext fun y => outs_apply m hO c t y

/-- Every element of the result lies in the block of some point: point `t` writes rows `512 t` to `512 t + 511`. -/
theorem cover (a : (pcfg0 (F := F)).Adm) (i : S16384x2048.Idx) :
    ∃ t : Fin (cfg0 a).N, ((cfg0 a).win 3).flush t = true ∧ i ∈ (((cfg0 a).win 3).blk t).view.set := by
  have hi0 : (i 0).val < 16384 := (i 0).isLt
  have hN : grid0.N = 32 := N_0
  have ht : (i 0).val / 512 < grid0.N := by omega
  have e0 : (grid0.coords ⟨(i 0).val / 512, ht⟩ 0).val = (i 0).val / 512 := by
    rw [Pipeline.Grid.coords_val (G := grid0) ⟨(i 0).val / 512, ht⟩ 0 (S := 1) (B := 32) (by decide) rfl]
    dsimp only
    omega
  have e1 : cc0_transform_3 (grid0.coords ⟨(i 0).val / 512, ht⟩) 0 = (i 0).val / 512 := by
    show (BitVec.ofNat 32 (grid0.coords ⟨(i 0).val / 512, ht⟩ 0).val).toNat = _
    rw [e0, BitVec.toNat_ofNat]
    omega
  refine ⟨⟨(i 0).val / 512, ht⟩, flush0_3 _ _, Finset.mem_map.mpr
    ⟨(ix2 ⟨(i 0).val % 512, Nat.mod_lt _ (by decide)⟩ (i 1) : S512x2048.Idx), Finset.mem_univ _, ?_⟩⟩
  show at3 a ⟨(i 0).val / 512, ht⟩ _ = i
  funext x
  apply Fin.ext
  rw [at3_val]
  match x with
  | ⟨0, _⟩ =>
    refine (congrArg (fun n : Nat => n * 512 + (i 0).val % 512) e1).trans ?_
    show (i 0).val / 512 * 512 + (i 0).val % 512 = (i 0).val
    omega
  | ⟨1, _⟩ => show 0 * 2048 + (i 1).val = (i 1).val; omega

/-- So the result array ends at the whole result. -/
theorem final (c : Dev nD) : (dats m (ok m) 0 c).arrAt 3 (cfgM m (ok m)).N = result m c :=
  (dats m (ok m) 0 c).arrAt_eq_of_cover 3 (result m c) (fun t _ => flushed_eq m (ok m) c t) (cover (adm m (ok m)))

/-- The run, read: the result array at the scale and shift, the arguments unchanged. -/
theorem run : θ_run defs (onTc (τ := τ) (main (F := F))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h c).1 3).trans (final m c),
      ((h c).1 0).trans (((dats m (ok m) 0 c).arrAt_in 0 rfl _).trans (V_main_arg0 m c)),
      ((h c).2 main_arg1 (by decide : main_arg1 ∈ Pipeline.restRefs sig spec0)).trans (V_main_arg1 m c), ((h c).2 main_arg2 (by decide : main_arg2 ∈ Pipeline.restRefs sig spec0)).trans (V_main_arg2 m c),
      ((h c).2 main_arg3 (by decide : main_arg3 ∈ Pipeline.restRefs sig spec0)).trans (V_main_arg3 m c)⟩)
    (run_main m ρ (ok m))

end Cert.KernelIdeal.Proof

end
-- ==== Proof.ReferenceIdealValue.lean ====
/- What the reference computes when the modality names a row: the scale and shift of `feat` by that row. -/
module

public import proofs.«01_k».proof.Proof.Row
public import proofs.«01_k».proof.Proof.Gen.ReferenceIdeal.Run
public import Idealize.ShloMosaic.Lib.ReduceAll
public import Idealize.ShloMosaic.Lib.Routing.Ops

@[expose] public section

noncomputable section

namespace Cert.ReferenceIdeal.Proof

open Cert.ReferenceIdeal Cert.ReferenceIdeal.Gen Idealize.ShloMosaic Idealize.ShloMosaic.TcCoe Idealize.ShloMosaic.ValueIdx Idealize.SL.Sem

variable {F : FTy → Type} [FloatOps F]

/-- The modality word of a scalar array. -/
abbrev word (w : IVec S_ 32) : BitVec 32 := w (fun a => a.elim0)

/-- A scalar array broadcast to any shape is its one word everywhere. -/
theorem bcast_word {t : Shape} (h : S_.BroadcastsInDim t ![]) (w : IVec S_ 32) (j : t.Idx) : broadcastInDim t ![] h w j = word w :=
  broadcastInDim_apply _ _ _ _ _ fun a => a.elim0

/-- The row number that every row of the reference looks up, a negative one counted from the end. -/
def rows (w : IVec S_ 32) : IVec S16384x1 32 :=
  broadcastInDim S16384x1 ![0] bcast_S16384_S16384x1_0
    (select (cmpi .slt (broadcastInDim S16384 ![] bcast_S_S16384 w) (broadcastInDim S16384 ![] bcast_S_S16384 (constantI S_ 32 0#32)))
      (addi (broadcastInDim S16384 ![] bcast_S_S16384 w) (broadcastInDim S16384 ![] bcast_S_S16384 (constantI S_ 32 2#32)))
      (broadcastInDim S16384 ![] bcast_S_S16384 w))

/-- Whether each looked-up row number is one of the table's. -/
def inside (w : IVec S_ 32) : IVec S16384 1 :=
  Host.reduce IntOp.andi
    (andi (cmpi .sge (rows w) (broadcastInDim S16384x1 ![] bcast_S_S16384x1 (constantI S_ 32 0#32)))
      (cmpi .sle (rows w) (broadcastInDim S16384x1 ![0, 1] bcast_S1x1_S16384x1_0_1 (broadcastInDim S1x1 ![1] bcast_S1_S1x1_1 (constantI S1 32 1#32)))))
    (constantI S_ 1 1#1) reducesTo_S16384x1_S16384_d1 h_S_

/-- A table's rows taken at the row numbers, a NaN in the place of a row outside the table. -/
def take (x : FVec F S2x2048 .f32) (w : IVec S_ 32) : FVec F S16384x2048 .f32 :=
  select (broadcastInDim S16384x2048 ![0] bcast_S16384_S16384x2048_0 (inside w))
    (Host.gather gather_S2x2048_S16384x1_S16384x2048_1_0_n_n_0_1_12048 x (rows w))
    (broadcastInDim S16384x2048 ![] bcast_S_S16384x2048 (constant S_ .f32 0x7FC00000#32))

/-- A modality word that names a row is looked up as it stands. -/
theorem rows_apply (w : IVec S_ 32) (h : word w = 0#32 ∨ word w = 1#32) (j : S16384x1.Idx) : rows w j = word w := by
  unfold rows
  rw [broadcastInDim_apply _ bcast_S16384_S16384x1_0 _ j (ix1 (j 0)) (fun a => by fin_cases a; rfl)]
  have hc : cmpi .slt (broadcastInDim S16384 ![] bcast_S_S16384 w) (broadcastInDim S16384 ![] bcast_S_S16384 (constantI S_ 32 0#32))
      (ix1 (j 0)) ≠ 1 := by
    show IntOp.cmpi .slt (broadcastInDim S16384 ![] bcast_S_S16384 w (ix1 (j 0))) 0#32 ≠ 1
    rw [bcast_word]
    rcases h with e | e <;> rw [e] <;> decide
  exact (if_neg hc).trans (bcast_word _ w _)

/-- Its row is inside the table. -/
theorem inside_apply (w : IVec S_ 32) (h : word w = 0#32 ∨ word w = 1#32) (j : S16384.Idx) : inside w j = 1#1 := by
  unfold inside
  refine Host.reduce_andi_one _ _ _ _ _ rfl fun i => ?_
  show IntOp.andi (IntOp.cmpi .sge (rows w i) 0#32) (IntOp.cmpi .sle (rows w i) 1#32) = 1#1
  rw [rows_apply w h]
  rcases h with e | e <;> rw [e] <;> decide

/-- So every row taken is the row the word names. -/
theorem take_apply (x : FVec F S2x2048 .f32) (w : IVec S_ 32) (h : word w = 0#32 ∨ word w = 1#32) (j : S16384x2048.Idx) :
    take x w j = x (ix2 (Row.row (word w)) (j 1)) := by
  obtain ⟨c, k, rfl⟩ : ∃ (c : Fin 16384) (k : Fin 2048), j = ix2 c k := ⟨j 0, j 1, eq_ix2 j⟩
  have hm : broadcastInDim S16384x2048 ![0] bcast_S16384_S16384x2048_0 (inside w) (ix2 c k) = 1#1 := by
    rw [broadcastInDim_apply _ bcast_S16384_S16384x2048_0 _ (ix2 c k) (ix1 c) (fun a => by fin_cases a; rfl)]
    exact inside_apply w h _
  have hg : Host.gather gather_S2x2048_S16384x1_S16384x2048_1_0_n_n_0_1_12048 x (rows w) (ix2 c k) = x (ix2 (Row.row (word w)) k) :=
    Routing.gather_row gather_S2x2048_S16384x1_S16384x2048_1_0_n_n_0_1_12048 rfl rfl rfl rfl rfl x (rows w) c k
      (Row.row (word w)) ((rows_apply w h _).trans (Row.eq_ofNat_row _ h)) (by decide)
  unfold take select
  rw [hm, hg]
  exact if_pos rfl

/-- The reference's run, read where the modality names a row: the result is the scale and shift of `feat` by that row, and the
    arguments are unchanged. -/
theorem run (m : (ℓ : Loc nD τ sig) → Buf (Elt F) ℓ) (ρ : Dev nD → PrngReg)
    (h : ∀ c : Dev nD, word (m ((c : Thread nD τ).loc main_arg3)) = 0#32 ∨ word (m ((c : Thread nD τ).loc main_arg3)) = 1#32) :
    θ_run defs (onTc (τ := τ) (main (F := F))) ⟨m, fun _ => 0, ρ⟩ fun r => ∀ c : Dev nD,
      r.2.mem ((c : Thread nD τ).loc main_v4) = (Row.scaleShift (m ((c : Thread nD τ).loc main_arg0))
        (m ((c : Thread nD τ).loc main_arg1)) (m ((c : Thread nD τ).loc main_arg2))
        (Row.row (word (m ((c : Thread nD τ).loc main_arg3)))) : FVec F S16384x2048 .f32)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun _ hr c => ⟨(hr c).1.trans ?_, (hr c).2⟩) (Value.run m ρ)
  show (addf (mulf (m ((c : Thread nD τ).loc main_arg0)) (take (m ((c : Thread nD τ).loc main_arg1)) (m ((c : Thread nD τ).loc main_arg3))))
    (take (m ((c : Thread nD τ).loc main_arg2)) (m ((c : Thread nD τ).loc main_arg3))) : FVec F S16384x2048 .f32) = _
  funext j
  exact congrArg₂ FloatOps.addf (congrArg₂ FloatOps.mulf rfl (take_apply _ _ (h c) j)) (take_apply _ _ (h c) j)

end Cert.ReferenceIdeal.Proof

end
-- ==== Proof.lean ====
/- The claims of `proof/Defs.lean`, assembled: the frames from the generated ones, the region's side condition proved in
   Proof/TableKernel.lean and Proof/TableIdeal.lean; the value claim from Proof/ValueIdeal.lean and
   Proof/ReferenceIdealValue.lean, which both end at `Cert.Row.scaleShift`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.TableKernel
public import proofs.«01_k».proof.Proof.ValueIdeal
public import proofs.«01_k».proof.Proof.ReferenceIdealValue
public import Idealize.ShloMosaic.Lib.Quiescent

@[expose] public section

noncomputable section

namespace Cert.Proof

open Idealize.ShloMosaic Idealize.ShloMosaic.TcCoe Idealize.SL.Sem

/-- The kernel runs to an end, leaves its arguments as they were and every semaphore counter at zero, whatever it is given. -/
theorem frame_kernel : Cert.quiescent_Kernel := fun m ρ _ => Cert.Kernel.Gen.frame m ρ (Cert.Kernel.Proof.ok m)

/-- The same of its idealization. -/
theorem frame_kernelIdeal : Cert.quiescent_KernelIdeal :=
  fun m ρ _ => Cert.KernelIdeal.Gen.frame m ρ (Cert.KernelIdeal.Proof.ok m)

/-- The same of the reference, which has no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The precondition states no side condition of its own. -/
instance preFacts : Cert.Pre_names_a_modality.Facts := ⟨⟩

/-- Where the precondition holds, the modality word is 0 or 1. -/
theorem word_of_pre (m : (ℓ : Loc Cert.KernelIdeal.nD Cert.KernelIdeal.τ Cert.KernelIdeal.sig) → Buf (Elt Ideal) ℓ)
    (h : Cert.Pre_KernelIdeal_names_a_modality m) (c : Dev Cert.KernelIdeal.nD) :
    Cert.KernelIdeal.Proof.word m c = 0#32 ∨ Cert.KernelIdeal.Proof.word m c = 1#32 :=
  Row.eq_of_between _ (congrFun (h c) (fun a => a.elim0))

/-- Where the modality names a row, the idealized kernel and the reference end with the same result: each leaves the scale and shift
    of `feat` by that row. -/
theorem algebraic : Cert.algebraic_KernelIdeal_ReferenceIdeal_pre_names_a_modality := by
  intro m ρ m' ρ' hpre hagree
  refine ⟨fun c => Cert.KernelIdeal.Proof.result m c, Cert.KernelIdeal.Proof.run (F := Ideal) m ρ, ?_⟩
  have hw (c : Dev Cert.ReferenceIdeal.nD) : Cert.ReferenceIdeal.Proof.word (m' ((c : Thread Cert.ReferenceIdeal.nD Cert.ReferenceIdeal.τ).loc Cert.ReferenceIdeal.main_arg3)) = Cert.KernelIdeal.Proof.word m c :=
    congrFun (hagree c).2.2.2 _
  refine (θ_run Cert.ReferenceIdeal.defs _ _).mono (fun _ h c => ⟨(h c).1.trans ?_, (h c).2⟩)
    (Cert.ReferenceIdeal.Proof.run (F := Ideal) m' ρ' fun c => (hw c).symm ▸ word_of_pre m hpre c)
  rw [hw c, (hagree c).1, (hagree c).2.1, (hagree c).2.2.1]

/-- All the claims. -/
theorem claim : Cert.Claim :=
  ⟨Cert.Kernel.Gen.facts, Cert.KernelIdeal.Gen.facts, Cert.ReferenceIdeal.Gen.facts, preFacts,
    frame_kernel, frame_kernelIdeal, fun m ρ _ => frame_kernelIdeal m ρ trivial, frame_referenceIdeal,
    fun m ρ _ => frame_referenceIdeal m ρ trivial, trivial, algebraic⟩

end Cert.Proof

end
